-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S28x2x1024 Cert.KernelIdeal.S28x1x1024
  ∧ IdealRules.bf16_pair.Statement Cert.KernelIdeal.S16x128 Cert.KernelIdeal.S8x128
  ∧ IdealRules.bf16_pair.HalfStatement Cert.KernelIdeal.S56x1024
  ∧ IdealRules.bf16_pair.Statement Cert.KernelIdeal.S28x2x1024 Cert.KernelIdeal.S28x1x1024
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x7168 : Shape := ⟨3, ![16, 1, 7168]⟩
abbrev S3584x20480 : Shape := ⟨2, ![3584, 20480]⟩
abbrev S56x20480 : Shape := ⟨2, ![56, 20480]⟩
abbrev S16x7168 : Shape := ⟨2, ![16, 7168]⟩
abbrev S16x20480 : Shape := ⟨2, ![16, 20480]⟩
abbrev S3584x1024 : Shape := ⟨2, ![3584, 1024]⟩
abbrev S56x1024 : Shape := ⟨2, ![56, 1024]⟩
abbrev S16x1024 : Shape := ⟨2, ![16, 1024]⟩
abbrev S28x1024 : Shape := ⟨2, ![28, 1024]⟩
abbrev S8x128 : Shape := ⟨2, ![8, 128]⟩
abbrev S16x128 : Shape := ⟨2, ![16, 128]⟩
abbrev S8x64 : Shape := ⟨2, ![8, 64]⟩
abbrev S8x64x1 : Shape := ⟨3, ![8, 64, 1]⟩
abbrev S8x64x2 : Shape := ⟨3, ![8, 64, 2]⟩
abbrev S128x512 : Shape := ⟨2, ![128, 512]⟩
abbrev S32x512 : Shape := ⟨2, ![32, 512]⟩
abbrev S32x8x512 : Shape := ⟨3, ![32, 8, 512]⟩
abbrev S32x1x512 : Shape := ⟨3, ![32, 1, 512]⟩
abbrev S256x512 : Shape := ⟨2, ![256, 512]⟩
abbrev S1x512 : Shape := ⟨2, ![1, 512]⟩
abbrev S8x512 : Shape := ⟨2, ![8, 512]⟩
abbrev S16x512 : Shape := ⟨2, ![16, 512]⟩
abbrev S16x16x512 : Shape := ⟨3, ![16, 16, 512]⟩
abbrev S1x16x512 : Shape := ⟨3, ![1, 16, 512]⟩
abbrev S16x256 : Shape := ⟨2, ![16, 256]⟩

abbrev nBuf : Space → Nat
  | .hbm => 5
  | .vmem => 9
  | .smem => 0
  | _ => 0

abbrev bufTy : (tb : Table) → Fin (tcTables nBuf tb) → BufTy
  | .hbm, ⟨0, _⟩ => ⟨S16x1x7168, .bf16⟩
  | .hbm, ⟨1, _⟩ => ⟨S3584x20480, .i8⟩
  | .hbm, ⟨2, _⟩ => ⟨S56x20480, .bf16⟩
  | .hbm, ⟨3, _⟩ => ⟨S16x7168, .bf16⟩
  | .hbm, ⟨4, _⟩ => ⟨S16x20480, .bf16⟩
  | .local _ .vmem, ⟨0, _⟩ => ⟨S16x7168, .bf16⟩
  | .local _ .vmem, ⟨1, _⟩ => ⟨S3584x1024, .i8⟩
  | .local _ .vmem, ⟨2, _⟩ => ⟨S3584x1024, .i8⟩
  | .local _ .vmem, ⟨3, _⟩ => ⟨S56x1024, .bf16⟩
  | .local _ .vmem, ⟨4, _⟩ => ⟨S56x1024, .bf16⟩
  | .local _ .vmem, ⟨5, _⟩ => ⟨S16x1024, .bf16⟩
  | .local _ .vmem, ⟨6, _⟩ => ⟨S16x1024, .bf16⟩
  | .local _ .vmem, ⟨7, _⟩ => ⟨S16x7168, .bf16⟩
  | .local _ .vmem, ⟨8, _⟩ => ⟨S28x1024, .i32⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S28x2x1024 : Shape := ⟨3, ![28, 2, 1024]⟩
abbrev S28x1x1024 : Shape := ⟨3, ![28, 1, 1024]⟩
abbrev S1x2x512 : Shape := ⟨3, ![1, 2, 512]⟩
abbrev S1x1x512 : Shape := ⟨3, ![1, 1, 512]⟩
  | .local _ .vmem, ⟨8, _⟩ => ⟨S28x2x1024, .bf16⟩
variable {F : FTy → Type} [FloatOps F]
-- ==== ReferenceIdeal.lean ====
abbrev S16x1x7168 : Shape := ⟨3, ![16, 1, 7168]⟩
abbrev S3584x20480 : Shape := ⟨2, ![3584, 20480]⟩
abbrev S56x20480 : Shape := ⟨2, ![56, 20480]⟩
abbrev S16x56x128 : Shape := ⟨3, ![16, 56, 128]⟩
abbrev S28x128x20480 : Shape := ⟨3, ![28, 128, 20480]⟩
abbrev S_ : Shape := ⟨0, ![]⟩
abbrev S28x20480 : Shape := ⟨2, ![28, 20480]⟩
abbrev S28x1x20480 : Shape := ⟨3, ![28, 1, 20480]⟩
abbrev S16x28x128 : Shape := ⟨3, ![16, 28, 128]⟩
abbrev S16x20480 : Shape := ⟨2, ![16, 20480]⟩

abbrev nBuf : Space → Nat
  | .hbm => 34
  | .vmem => 0
  | .smem => 0
  | _ => 0

abbrev bufTy : (tb : Table) → Fin (tcTables nBuf tb) → BufTy
  | .hbm, ⟨0, _⟩ => ⟨S16x1x7168, .bf16⟩
  | .hbm, ⟨1, _⟩ => ⟨S3584x20480, .i8⟩
  | .hbm, ⟨2, _⟩ => ⟨S56x20480, .bf16⟩
  | .hbm, ⟨3, _⟩ => ⟨S16x56x128, .bf16⟩
  | .hbm, ⟨4, _⟩ => ⟨S3584x20480, .i32⟩
  | .hbm, ⟨5, _⟩ => ⟨S28x128x20480, .i32⟩
  | .hbm, ⟨6, _⟩ => ⟨S_, .i32⟩
  | .hbm, ⟨7, _⟩ => ⟨S28x128x20480, .i32⟩
  | .hbm, ⟨8, _⟩ => ⟨S28x128x20480, .i32⟩
  | .hbm, ⟨9, _⟩ => ⟨S28x20480, .bf16⟩
  | .hbm, ⟨10, _⟩ => ⟨S28x128x20480, .bf16⟩
  | .hbm, ⟨11, _⟩ => ⟨S_, .bf16⟩
  | .hbm, ⟨12, _⟩ => ⟨S28x128x20480, .bf16⟩
  | .hbm, ⟨13, _⟩ => ⟨S28x128x20480, .bf16⟩
  | .hbm, ⟨14, _⟩ => ⟨S28x1x20480, .bf16⟩
  | .hbm, ⟨15, _⟩ => ⟨S28x128x20480, .bf16⟩
  | .hbm, ⟨16, _⟩ => ⟨S28x128x20480, .bf16⟩
  | .hbm, ⟨17, _⟩ => ⟨S_, .i32⟩
  | .hbm, ⟨18, _⟩ => ⟨S28x128x20480, .i32⟩
  | .hbm, ⟨19, _⟩ => ⟨S28x128x20480, .i32⟩
  | .hbm, ⟨20, _⟩ => ⟨S28x20480, .bf16⟩
  | .hbm, ⟨21, _⟩ => ⟨S28x128x20480, .bf16⟩
  | .hbm, ⟨22, _⟩ => ⟨S_, .bf16⟩
  | .hbm, ⟨23, _⟩ => ⟨S28x128x20480, .bf16⟩
  | .hbm, ⟨24, _⟩ => ⟨S28x128x20480, .bf16⟩
  | .hbm, ⟨25, _⟩ => ⟨S28x1x20480, .bf16⟩
  | .hbm, ⟨26, _⟩ => ⟨S28x128x20480, .bf16⟩
  | .hbm, ⟨27, _⟩ => ⟨S28x128x20480, .bf16⟩
  | .hbm, ⟨28, _⟩ => ⟨S16x28x128, .bf16⟩
  | .hbm, ⟨29, _⟩ => ⟨S16x20480, .f32⟩
  | .hbm, ⟨30, _⟩ => ⟨S16x28x128, .bf16⟩
  | .hbm, ⟨31, _⟩ => ⟨S16x20480, .f32⟩
  | .hbm, ⟨32, _⟩ => ⟨S16x20480, .f32⟩
  | .hbm, ⟨33, _⟩ => ⟨S16x20480, .bf16⟩
  | _, _ => ⟨S16x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Chunk.lean ====
module

public import proofs.«01_k».proof.Proof.Gen.KernelIdeal.Frame

/-! # What one chunk of a block computes, as one expression per group of rows

The body of the kernel handles a block of 1024 output columns in two chunks of 512. For a chunk it runs over
the 28 groups of 128 byte rows; a group gives 256 rows of dequantised weights (`weights`), these are multiplied
by 256 columns of the rearranged input (`groupDot`) and the 28 products are added up in order (`partialSum`).
-/

@[expose] public section

noncomputable section

namespace Cert.KernelIdeal.W4

open Cert.KernelIdeal Cert.KernelIdeal.Gen Idealize.ShloMosaic Idealize.SL.Sem

variable {F : FTy → Type} [FloatOps F]

/-- The codes of one group, less 8, as bf16: row `8r + q` is nibble `q` of the word made of byte rows `4r … 4r + 3`. -/
def codes (w : Vec F S128x512 .i8) : FVec F S256x512 .bf16 :=
  sitofp .bf16 (shapeCast S256x512
    (shrsi
      (shli
        (broadcastTo S32x8x512
          (shapeCast S32x1x512
            (xori (bitcast S32x512 32 w bitcasts_S128x512_w8_S32x512_w32) (broadcast S32x512 2290649224#32))
            shapeCasts_S32x512_S32x1x512)
          broadcasts_S32x1x512_S32x8x512)
        (subi (broadcast S32x8x512 28#32)
          (muli (broadcast S32x8x512 4#32) (iota .tc S32x8x512 32 [1] iota_S32x8x512_d1_w32))))
      (broadcast S32x8x512 28#32))
    shapeCasts_S32x8x512_S256x512)

/-- One of the two rows of scales of a group (row `p`), repeated eight times. -/
def scaleRows (p : Fin 2) (s : Vec F S1x2x512 .bf16) : FVec F S8x512 .bf16 :=
  let row : FVec F S1x512 .bf16 :=
    shapeCast S1x512 (rowsOfParity p S1x1x512 s bitcasts_S1x2x512_w16_S1x1x512_w32) shapeCasts_S1x1x512_S1x512
  concatenate S8x512 0 [⟨S1x512, row⟩, ⟨S1x512, row⟩, ⟨S1x512, row⟩, ⟨S1x512, row⟩, ⟨S1x512, row⟩, ⟨S1x512, row⟩,
    ⟨S1x512, row⟩, ⟨S1x512, row⟩] concatenates_S1x512_S1x512_S1x512_S1x512_S1x512_S1x512_S1x512_S1x512_S8x512_d0

/-- The 256 rows of dequantised weights of a group: each code times the scale of its column, the two rows of scales
    alternating down the rows. -/
def weights (w : Vec F S128x512 .i8) (s : Vec F S1x2x512 .bf16) : FVec F S256x512 .bf16 :=
  shapeCast S256x512
    (mulf (shapeCast S16x16x512 (codes w) shapeCasts_S256x512_S16x16x512)
      (broadcastTo S16x16x512
        (shapeCast S1x16x512
          (interleaveRows S16x512 (scaleRows 0 s) (scaleRows 1 s) bitcasts_S16x512_w16_S8x512_w32)
          shapeCasts_S16x512_S1x16x512)
        broadcasts_S1x16x512_S16x16x512))
    shapeCasts_S16x16x512_S256x512

/-- What one group adds to a chunk. -/
def groupDot (x : Vec F S16x256 .bf16) (w : Vec F S128x512 .i8) (s : Vec F S1x2x512 .bf16) : FVec F S16x512 .f32 :=
  matmul dot_S16x256_S256x512_S16x512_1_0_0_1_n_n none x (weights w s) (constant S16x512 .f32 0x00000000#32)

/-- The sum over groups `0 … n`, in that order. -/
def partialSum (x : Fin 28 → Vec F S16x256 .bf16) (w : Fin 28 → Vec F S128x512 .i8)
    (s : Fin 28 → Vec F S1x2x512 .bf16) : (n : ℕ) → n < 28 → FVec F S16x512 .f32
  | 0, h => groupDot (x ⟨0, h⟩) (w ⟨0, h⟩) (s ⟨0, h⟩)
  | n + 1, h => addf (partialSum x w s n (Nat.lt_of_succ_lt h)) (groupDot (x ⟨n + 1, h⟩) (w ⟨n + 1, h⟩) (s ⟨n + 1, h⟩))

/-- What the kernel stores for a chunk: the sum over all groups, rounded to bf16. -/
def chunk (x : Fin 28 → Vec F S16x256 .bf16) (w : Fin 28 → Vec F S128x512 .i8)
    (s : Fin 28 → Vec F S1x2x512 .bf16) : FVec F S16x512 .bf16 :=
  truncf .bf16 (partialSum x w s 27 (by decide)) bitsLt_bf16_f32

/-- The 256 columns of the rearranged input that group `g` reads. -/
abbrev inbX (g : Fin 28) : ∀ a, (![0, 256 * g.val] : Fin 2 → Nat) a + S16x256.size a ≤ S16x7168.size a := by
  have := g.isLt
  intro a; fin_cases a
  · show 0 + 16 ≤ 16; omega
  · show 256 * g.val + 256 ≤ 7168; omega

/-- The 128 byte rows of group `g` in the columns of a chunk that starts at column `o`. -/
abbrev inbW (g : Fin 28) (o : ℕ) (ho : o + 512 ≤ 1024) :
    ∀ a, (![128 * g.val, o] : Fin 2 → Nat) a + S128x512.size a ≤ S3584x1024.size a := by
  have := g.isLt
  intro a; fin_cases a
  · show 128 * g.val + 128 ≤ 3584; omega
  · show o + 512 ≤ 1024; omega

/-- The two rows of scales of group `g` in the columns of a chunk that starts at column `o`. -/
abbrev inbS (g : Fin 28) (o : ℕ) (ho : o + 512 ≤ 1024) :
    ∀ a, (![g.val, 0, o] : Fin 3 → Nat) a + S1x2x512.size a ≤ S28x2x1024.size a := by
  have := g.isLt
  intro a; fin_cases a
  · show g.val + 1 ≤ 28; omega
  · show 0 + 2 ≤ 2; omega
  · show o + 512 ≤ 1024; omega

/-- The one store that fills the scratch of scales: the block's scales, row `g` paired with row `g + 28`. -/
def scaleStores (arg3 : Memref sig .tc .vmem S56x1024 .bf16) (harg3 : arg3.IsWhole) (x2 : Vec F S56x1024 .bf16) :
    List (View.Piece (Elt F) S28x2x1024 .bf16) :=
  [⟨Rect.unit (s := S28x2x1024) ![0, 0, 0] S28x2x1024.size inb_S28x2x1024_S28x2x1024_0_0_0,
    k0_pay280 (View.readAt (Elt F) arg3.view (Rect.unit (s := S56x1024) ![0, 0] S56x1024.size inb_S56x1024_S56x1024_0_0).toLoadRect
      (harg3.unread x2))⟩]

end Cert.KernelIdeal.W4

end
-- ==== Proof.Rearranged.lean ====
module

public import proofs.«01_k».proof.Proof.Gen.KernelIdeal.Frame

/-! # The rearranged input, tile by tile

At the first grid point the body rearranges the input into a scratch buffer, 128 columns at a time: tile
`2g + p` (`tile`) interleaves 64 columns of group `g` of the first half of the input with the same 64 columns of
the second half. -/

@[expose] public section

noncomputable section

namespace Cert.KernelIdeal.W4

open Cert.KernelIdeal Cert.KernelIdeal.Gen Idealize.ShloMosaic Idealize.SL.Sem

variable {F : FTy → Type} [FloatOps F]

/-- Either half of 128 columns is a slice. -/
theorem slices_half (p : Fin 2) : S8x128.Slices ![0, 64 * p.val] S8x64 := by
  fin_cases p
  · exact slices_S8x128_o0_0_S8x64
  · exact slices_S8x128_o0_64_S8x64

/-- Columns `64p … 64p + 63`, each repeated in two neighbouring columns. -/
def spread (p : Fin 2) (v : FVec F S8x128 .bf16) : FVec F S8x128 .bf16 :=
  let half : FVec F S8x64x1 .bf16 :=
    shapeCast S8x64x1 (extractStridedSlice S8x64 ![0, 64 * p.val] v (slices_half p)) shapeCasts_S8x64_S8x64x1
  shapeCast S8x128 (concatenate S8x64x2 2 [⟨S8x64x1, half⟩, ⟨S8x64x1, half⟩] concatenates_S8x64x1_S8x64x1_S8x64x2_d2)
    shapeCasts_S8x64x2_S8x128

/-- The mask of the even columns. -/
def evenColumns : IVec S8x128 1 :=
  cmpi .eq (andi (iota .tc S8x128 32 [1] iota_S8x128_d1_w32) (broadcast S8x128 1#32)) (broadcast S8x128 0#32)

/-- The rows of parity `q` of a tile: even columns from `a`, odd columns from `b`. -/
def tileRows (p q : Fin 2) (a b : Vec F S16x128 .bf16) : FVec F S8x128 .bf16 :=
  select evenColumns
    (spread p (rowsOfParity q S8x128 (shapeCast S16x128 a shapeCasts_S16x128_S16x128) bitcasts_S16x128_w16_S8x128_w32))
    (spread p (rowsOfParity q S8x128 (shapeCast S16x128 b shapeCasts_S16x128_S16x128) bitcasts_S16x128_w16_S8x128_w32))

/-- A tile of the rearranged input: columns `64p … 64p + 63` of `a` and of `b`, interleaved. -/
def tile (p : Fin 2) (a b : Vec F S16x128 .bf16) : FVec F S16x128 .bf16 :=
  shapeCast S16x128 (interleaveRows S16x128 (tileRows p 0 a b) (tileRows p 1 a b) bitcasts_S16x128_w16_S8x128_w32)
    shapeCasts_S16x128_S16x128

/-- Columns `o … o + 127` lie in the input. -/
theorem inbTile (o : ℕ) (h : o + 128 ≤ 7168) :
    ∀ a, (![0, o] : Fin 2 → Nat) a + S16x128.size a ≤ S16x7168.size a := by
  intro a; fin_cases a
  · show 0 + 16 ≤ 16; omega
  · show o + 128 ≤ 7168; omega

/-- The 128 columns of a whole input buffer from column `o`, as the body loads them. -/
def load128 (arg1 : Memref sig .tc .vmem S16x7168 .bf16) (harg1 : arg1.IsWhole) (x0 : Vec F S16x7168 .bf16)
    (o : ℕ) (h : o + 128 ≤ 7168) : Vec F S16x128 .bf16 :=
  View.readAt (Elt F) arg1.view (Rect.unit (s := S16x7168) ![0, o] S16x128.size (inbTile o h)).toLoadRect (harg1.unread x0)

/-- Tile `2g + p` as the body stores it. -/
def storedTile (arg1 : Memref sig .tc .vmem S16x7168 .bf16) (harg1 : arg1.IsWhole) (x0 : Vec F S16x7168 .bf16)
    (n : ℕ) (h : n < 56) : FVec F S16x128 .bf16 :=
  tile ⟨n % 2, Nat.mod_lt _ (by decide)⟩ (load128 arg1 harg1 x0 (128 * (n / 2)) (by omega))
    (load128 arg1 harg1 x0 (3584 + 128 * (n / 2)) (by omega))

/-- The first `n` stores of the rearrangement, the last one first. -/
def tiles (arg1 : Memref sig .tc .vmem S16x7168 .bf16) (harg1 : arg1.IsWhole) (x0 : Vec F S16x7168 .bf16) :
    (n : ℕ) → n ≤ 56 → List (View.Piece (Elt F) S16x7168 .bf16)
  | 0, _ => []
  | n + 1, h => ⟨Rect.unit (s := S16x7168) ![0, 128 * n] S16x128.size (inbTile (128 * n) (by omega)), storedTile arg1 harg1 x0 n h⟩
      :: tiles arg1 harg1 x0 n (Nat.le_of_succ_le h)

end Cert.KernelIdeal.W4

end
-- ==== Proof.PiecesA.lean ====
module

public import proofs.«01_k».proof.Proof.Chunk
public import proofs.«01_k».proof.Proof.Rearranged

/-! # What the body stores at the first point -/

@[expose] public section

set_option maxRecDepth 65536

noncomputable section

namespace Cert.KernelIdeal.W4

open Cert.KernelIdeal Cert.KernelIdeal.Gen Idealize.ShloMosaic Idealize.SL.Sem

variable {F : FTy → Type} [FloatOps F]

section
variable (c : Dev nD) (i : grid0.Coords) (arg1 : Memref sig .tc .vmem S16x7168 .bf16) (harg1 : arg1.IsWhole) (arg2 : Memref sig .tc .vmem S3584x1024 .i8) (harg2 : arg2.IsWhole) (arg3 : Memref sig .tc .vmem S56x1024 .bf16) (harg3 : arg3.IsWhole) (arg4 : Memref sig .tc .vmem S16x1024 .bf16) (harg4 : arg4.IsWhole) (arg5 : Memref sig .tc .vmem S16x7168 .bf16) (harg5 : arg5.IsWhole) (arg6 : Memref sig .tc .vmem S28x2x1024 .bf16) (harg6 : arg6.IsWhole) (hc0 : cond0_0 i)
    (x0 : Vec F S16x7168 .bf16) (x1 : Vec F S3584x1024 .i8) (x2 : Vec F S56x1024 .bf16)

/-- The chunk at column `o`, its operands as the loads of the body. -/
def chunkA (o : ℕ) (ho : o + 512 ≤ 1024) : FVec F S16x512 .bf16 :=
  chunk
    (fun g => arg5.view.readCov (tiles arg1 harg1 x0 56 (le_refl _)) (Rect.unit (s := S16x7168) ![0, 256 * g.val] S16x256.size (inbX g)).toLoadRect)
    (fun g => View.readAt (Elt F) arg2.view (Rect.unit (s := S3584x1024) ![128 * g.val, o] S128x512.size (inbW g o ho)).toLoadRect (harg2.unread x1))
    (fun g => arg6.view.readCov (scaleStores arg3 harg3 x2) (Rect.unit (s := S28x2x1024) ![g.val, 0, o] S1x2x512.size (inbS g o ho)).toLoadRect)

/-- The body's stores into the output block: the two chunks. -/
theorem pieces_A :
    (kernelRun0_A c i arg1 harg1 arg2 harg2 arg3 harg3 arg4 harg4 arg5 harg5 arg6 harg6 hc0 x0 x1 x2).1
      = [⟨Rect.unit ![0, 512] S16x512.size inb_S16x1024_S16x512_0_512, chunkA arg1 harg1 arg2 harg2 arg3 harg3 arg5 arg6 x0 x1 x2 512 (by decide)⟩,
         ⟨Rect.unit ![0, 0] S16x512.size inb_S16x1024_S16x512_0_0, chunkA arg1 harg1 arg2 harg2 arg3 harg3 arg5 arg6 x0 x1 x2 0 (by decide)⟩] := by
  rfl

/-- The scratch buffer ends with the 56 stores of the rearrangement. -/
theorem scratch_A :
    (kernelRun0_A c i arg1 harg1 arg2 harg2 arg3 harg3 arg4 harg4 arg5 harg5 arg6 harg6 hc0 x0 x1 x2).2.1
      = tiles arg1 harg1 x0 56 (le_refl _) := by
  rfl
end

end Cert.KernelIdeal.W4

end
-- ==== Proof.PiecesB.lean ====
module

public import proofs.«01_k».proof.Proof.Chunk

/-! # The two pieces the body stores at a point after the first -/

@[expose] public section

set_option maxRecDepth 65536

noncomputable section

namespace Cert.KernelIdeal.W4

open Cert.KernelIdeal Cert.KernelIdeal.Gen Idealize.ShloMosaic Idealize.SL.Sem

variable {F : FTy → Type} [FloatOps F]

section
variable (c : Dev nD) (i : grid0.Coords) (arg1 : Memref sig .tc .vmem S16x7168 .bf16) (harg1 : arg1.IsWhole) (arg2 : Memref sig .tc .vmem S3584x1024 .i8) (harg2 : arg2.IsWhole) (arg3 : Memref sig .tc .vmem S56x1024 .bf16) (harg3 : arg3.IsWhole) (arg4 : Memref sig .tc .vmem S16x1024 .bf16) (harg4 : arg4.IsWhole) (arg5 : Memref sig .tc .vmem S16x7168 .bf16) (harg5 : arg5.IsWhole) (arg6 : Memref sig .tc .vmem S28x2x1024 .bf16) (harg6 : arg6.IsWhole) (hc0 : ¬cond0_0 i)
    (x0 : Vec F S16x7168 .bf16) (x1 : Vec F S3584x1024 .i8) (x2 : Vec F S56x1024 .bf16) (xs0 : Vec F S16x7168 .bf16)

/-- The chunk at column `o`, its operands as the loads of the body. -/
def chunkB (o : ℕ) (ho : o + 512 ≤ 1024) : FVec F S16x512 .bf16 :=
  chunk
    (fun g => View.readAt (Elt F) arg5.view (Rect.unit (s := S16x7168) ![0, 256 * g.val] S16x256.size (inbX g)).toLoadRect (harg5.unread xs0))
    (fun g => View.readAt (Elt F) arg2.view (Rect.unit (s := S3584x1024) ![128 * g.val, o] S128x512.size (inbW g o ho)).toLoadRect (harg2.unread x1))
    (fun g => arg6.view.readCov (scaleStores arg3 harg3 x2) (Rect.unit (s := S28x2x1024) ![g.val, 0, o] S1x2x512.size (inbS g o ho)).toLoadRect)

/-- The body's stores into the output block: the two chunks. -/
theorem pieces_B :
    (kernelRun0_B c i arg1 harg1 arg2 harg2 arg3 harg3 arg4 harg4 arg5 harg5 arg6 harg6 hc0 x0 x1 x2 xs0).1
      = [⟨Rect.unit ![0, 512] S16x512.size inb_S16x1024_S16x512_0_512, chunkB arg2 harg2 arg3 harg3 arg5 harg5 arg6 x1 x2 xs0 512 (by decide)⟩,
         ⟨Rect.unit ![0, 0] S16x512.size inb_S16x1024_S16x512_0_0, chunkB arg2 harg2 arg3 harg3 arg5 harg5 arg6 x1 x2 xs0 0 (by decide)⟩] := by
  rfl
end

end Cert.KernelIdeal.W4

end
-- ==== Proof.Blocks.lean ====
module

public import proofs.«01_k».proof.Proof.PiecesA
public import proofs.«01_k».proof.Proof.PiecesB
public import Idealize.ShloMosaic.Lib.Pipeline.ValueKit

/-! # What the body stores, in terms of the contents of its operands

The pieces of the body are stated over the buffers it loads from. Here each load is replaced by the part of the
buffer's contents it reads, so that both cases of the body are `blockChunk` of three arrays: the rearranged input, the
packed bytes and the paired scales. -/

@[expose] public section

set_option maxRecDepth 65536

noncomputable section

namespace Cert.KernelIdeal.W4

open Cert.KernelIdeal Cert.KernelIdeal.Gen Idealize.ShloMosaic Idealize.SL.Sem

variable {F : FTy → Type} [FloatOps F]

/-- The chunk at column `o` of a block: from the rearranged input `x`, the block's bytes `w` and paired scales `s`. -/
def blockChunk (x : Vec F S16x7168 .bf16) (w : Vec F S3584x1024 .i8) (s : Vec F S28x2x1024 .bf16)
    (o : ℕ) (ho : o + 512 ≤ 1024) : FVec F S16x512 .bf16 :=
  chunk
    (fun g => View.ld x (Rect.unit (s := S16x7168) ![0, 256 * g.val] S16x256.size (inbX g)))
    (fun g => View.ld w (Rect.unit (s := S3584x1024) ![128 * g.val, o] S128x512.size (inbW g o ho)))
    (fun g => View.ld s (Rect.unit (s := S28x2x1024) ![g.val, 0, o] S1x2x512.size (inbS g o ho)))

/-- The two chunks of a block, as one list of pieces that tiles it. -/
def blockPieces (x : Vec F S16x7168 .bf16) (w : Vec F S3584x1024 .i8) (s : Vec F S28x2x1024 .bf16) :
    List (View.Piece (Elt F) S16x1024 .bf16) :=
  [⟨Rect.unit ![0, 512] S16x512.size inb_S16x1024_S16x512_0_512, blockChunk x w s 512 (by decide)⟩,
   ⟨Rect.unit ![0, 0] S16x512.size inb_S16x1024_S16x512_0_0, blockChunk x w s 0 (by decide)⟩]

/-- A load of `arg6` after the one store that fills it reads the paired scales. -/
theorem load_scales (arg3 : Memref sig .tc .vmem S56x1024 .bf16) (harg3 : arg3.IsWhole)
    (arg6 : Memref sig .tc .vmem S28x2x1024 .bf16) (x2 : Vec F S56x1024 .bf16) (r : Rect S28x2x1024) :
    arg6.view.readCov (scaleStores arg3 harg3 x2) r.toLoadRect = View.ld (k0_pay280 x2) r := by
  have hz : (![0, 0, 0] : Fin S28x2x1024.rank → Nat) = fun _ => 0 := by funext a; fin_cases a <;> rfl
  have hz2 : (![0, 0] : Fin S56x1024.rank → Nat) = fun _ => 0 := by funext a; fin_cases a <;> rfl
  have hc : ∀ y, ∃ p ∈ scaleStores arg3 harg3 x2, y ∈ p.1.set := fun y =>
    View.cover_of_tiledL _ S28x2x1024.size (by rfl) y
  rw [View.readCov_eq_canon_ld _ _ _ hc, scaleStores, View.canon_cons_unit_zero hz, View.readAt_eq_ld,
    harg3.read_unread, View.ld_unit_zero hz2]

/-- The rearranged input as the 56 stores leave it. -/
def stored (arg1 : Memref sig .tc .vmem S16x7168 .bf16) (harg1 : arg1.IsWhole) (x0 : Vec F S16x7168 .bf16) :
    Vec F S16x7168 .bf16 :=
  View.canon (tiles arg1 harg1 x0 56 (le_refl _))

section
variable (c : Dev nD) (i : grid0.Coords) (arg1 : Memref sig .tc .vmem S16x7168 .bf16) (harg1 : arg1.IsWhole) (arg2 : Memref sig .tc .vmem S3584x1024 .i8) (harg2 : arg2.IsWhole) (arg3 : Memref sig .tc .vmem S56x1024 .bf16) (harg3 : arg3.IsWhole) (arg4 : Memref sig .tc .vmem S16x1024 .bf16) (harg4 : arg4.IsWhole) (arg5 : Memref sig .tc .vmem S16x7168 .bf16) (harg5 : arg5.IsWhole) (arg6 : Memref sig .tc .vmem S28x2x1024 .bf16) (harg6 : arg6.IsWhole)
    (x0 : Vec F S16x7168 .bf16) (x1 : Vec F S3584x1024 .i8) (x2 : Vec F S56x1024 .bf16) (xs0 : Vec F S16x7168 .bf16)

/-- After the first point a chunk reads the rearranged input the scratch buffer came with. -/
theorem chunkB_eq (o : ℕ) (ho : o + 512 ≤ 1024) :
    chunkB arg2 harg2 arg3 harg3 arg5 harg5 arg6 x1 x2 xs0 o ho = blockChunk xs0 x1 (k0_pay280 x2) o ho := by
  simp only [chunkB, blockChunk, View.readAt_eq_ld, Memref.IsWhole.read_unread, load_scales]

include c arg4 harg4 harg5 harg6 in
/-- At the first point a chunk reads the rearranged input just stored. -/
theorem chunkA_eq (hc0 : cond0_0 i) (o : ℕ) (ho : o + 512 ≤ 1024) :
    chunkA arg1 harg1 arg2 harg2 arg3 harg3 arg5 arg6 x0 x1 x2 o ho
      = blockChunk (stored arg1 harg1 x0) x1 (k0_pay280 x2) o ho := by
  have hc : ∀ y, ∃ p ∈ tiles arg1 harg1 x0 56 (le_refl _), y ∈ p.1.set := fun y => by
    rw [← scratch_A c i arg1 harg1 arg2 harg2 arg3 harg3 arg4 harg4 arg5 harg5 arg6 harg6 hc0 x0 x1 x2]
    exact scover0_A_0 c i arg1 harg1 arg2 harg2 arg3 harg3 arg4 harg4 arg5 harg5 arg6 harg6 hc0 x0 x1 x2 y
  simp only [chunkA, blockChunk, stored, View.readAt_eq_ld, Memref.IsWhole.read_unread, load_scales,
    View.readCov_eq_canon_ld _ _ _ hc]

/-- What the first point leaves in the output block. -/
theorem out_A (hc0 : cond0_0 i) :
    out0_A_3 c i arg1 harg1 arg2 harg2 arg3 harg3 arg4 harg4 arg5 harg5 arg6 harg6 hc0 x0 x1 x2
      = View.canon (blockPieces (stored arg1 harg1 x0) x1 (k0_pay280 x2)) := by
  unfold out0_A_3
  rw [View.read_writes_eq_canon _ _ _ (cover0_A_3 c i arg1 harg1 arg2 harg2 arg3 harg3 arg4 harg4 arg5 harg5 arg6 harg6 hc0 x0 x1 x2),
    pieces_A, chunkA_eq c i arg1 harg1 arg2 harg2 arg3 harg3 arg4 harg4 arg5 harg5 arg6 harg6 x0 x1 x2 hc0,
    chunkA_eq c i arg1 harg1 arg2 harg2 arg3 harg3 arg4 harg4 arg5 harg5 arg6 harg6 x0 x1 x2 hc0]
  rfl

/-- What the first point leaves in the scratch buffer. -/
theorem sout_A (hc0 : cond0_0 i) :
    sout0_A_0 c i arg1 harg1 arg2 harg2 arg3 harg3 arg4 harg4 arg5 harg5 arg6 harg6 hc0 x0 x1 x2
      = stored arg1 harg1 x0 := by
  unfold sout0_A_0 stored
  rw [View.read_writes_eq_canon _ _ _ (scover0_A_0 c i arg1 harg1 arg2 harg2 arg3 harg3 arg4 harg4 arg5 harg5 arg6 harg6 hc0 x0 x1 x2),
    scratch_A]

/-- What a later point leaves in the output block. -/
theorem out_B (hc0 : ¬cond0_0 i) :
    out0_B_3 c i arg1 harg1 arg2 harg2 arg3 harg3 arg4 harg4 arg5 harg5 arg6 harg6 hc0 x0 x1 x2 xs0
      = View.canon (blockPieces xs0 x1 (k0_pay280 x2)) := by
  unfold out0_B_3
  rw [View.read_writes_eq_canon _ _ _ (cover0_B_3 c i arg1 harg1 arg2 harg2 arg3 harg3 arg4 harg4 arg5 harg5 arg6 harg6 hc0 x0 x1 x2 xs0),
    pieces_B, chunkB_eq, chunkB_eq]
  rfl
end

end Cert.KernelIdeal.W4

end
-- ==== Proof.Nibble.lean ====
module

public import Idealize.ShloMosaic.Lib.Pointwise
public import Idealize.ShloMosaic.Lib.BitcastFour

/-! # The 4-bit codes of a byte

Both programs take a byte apart into two codes from 0 to 15 and subtract 8 from each. The reference masks and shifts the
byte; the kernel reads four bytes as a word, flips the top bit of all eight codes and extends the code it wants by its
sign. Both are `centred`. -/

@[expose] public section

noncomputable section

namespace Cert.W4

open Idealize.ShloMosaic

/-- The code in the low half (`p = 0`) or the high half (`p = 1`) of a byte. -/
def nibble (b : BitVec 8) (p : ℕ) : BitVec 4 := b.extractLsb' (4 * p) 4

/-- A code less 8, as an extended real. -/
def centred (n : BitVec 4) : EReal := (((n.toNat : ℤ) - 8 : ℤ) : ℝ)

/-- Flipping the top bit of a code and reading it with its sign subtracts 8. -/
theorem flip_toInt : ∀ n : BitVec 4, ((n ^^^ 8#4).signExtend 32).toInt = (n.toNat : ℤ) - 8 := by decide

/-- The kernel's three operations on a word, for nibble `q` of the word, when that nibble is half `p` of the byte `b`. -/
theorem word_code (W : BitVec 32) (b : BitVec 8) (p : ℕ) (q : ℕ) (hq : q < 8)
    (hW : ∀ i, i < 4 → W.getLsbD (4 * q + i) = b.getLsbD (4 * p + i)) :
    IntOp.shrsi .vector (IntOp.shli .vector (IntOp.xori W 2290649224#32)
        (IntOp.subi (28#32) (IntOp.muli (4#32) (BitVec.ofNat 32 q)))) 28#32
      = (nibble b p ^^^ 8#4).signExtend 32 := by
  have ha : (IntOp.subi (28#32) (IntOp.muli (4#32) (BitVec.ofNat 32 q))).toNat = 28 - 4 * q := by
    interval_cases q <;> rfl
  have hm : ∀ i, i < 4 → (2290649224#32).getLsbD (4 * q + i) = (8#4).getLsbD i := by
    intro i hi
    interval_cases q <;> interval_cases i <;> rfl
  have h28 : (28#32 : BitVec 32).toNat = 28 := rfl
  have bit : ∀ i, i < 4 → (W ^^^ 2290649224#32).getLsbD (4 * q + i) = (nibble b p ^^^ 8#4).getLsbD i := by
    intro i hi
    rw [BitVec.getLsbD_xor, BitVec.getLsbD_xor, hW i hi, hm i hi, nibble, BitVec.getLsbD_extractLsb']
    simp [hi]
  unfold IntOp.shrsi IntOp.shli IntOp.xori
  rw [if_pos (by rw [h28]; decide), if_pos (by omega)]
  apply BitVec.eq_of_getLsbD_eq
  intro i hi
  have up : ∀ k, k < 4 → ((W ^^^ 2290649224#32) <<< (28 - 4 * q)).getLsbD (28 + k) = (nibble b p ^^^ 8#4).getLsbD k := by
    intro k hk
    rw [BitVec.getLsbD_shiftLeft, show 28 + k - (28 - 4 * q) = 4 * q + k by omega, bit k hk]
    simp; omega
  rw [BitVec.sshiftRight', h28, BitVec.getLsbD_sshiftRight, BitVec.shiftLeft_eq', ha, BitVec.getLsbD_signExtend]
  by_cases h : i < 4
  · rw [if_pos (by omega), up i h]
    simp [h, hi]
  · rw [if_neg (by omega), BitVec.msb_eq_getLsbD_last, up 3 (by decide), BitVec.msb_eq_getLsbD_last]
    simp [h, hi]

/-- The low half of a byte widened with zeros and masked. -/
theorem low_code : ∀ b : BitVec 8, (IntOp.andi (b.setWidth 32) 15#32).toInt = ((nibble b 0).toNat : ℤ) := by
  decide +kernel

/-- The high half of a byte widened with zeros and shifted. -/
theorem high_code : ∀ b : BitVec 8, (IntOp.shrsi .host (b.setWidth 32) 4#32).toInt = ((nibble b 1).toNat : ℤ) := by
  decide +kernel

/-- The bf16 pattern `0x4100` is 8. -/
theorem ofBits_eight : Idealize.ShloMosaic.Ideal.ofBits .bf16 0x4100#16 = ((8 : ℝ) : EReal) := by
  simp [Ideal.ofBits, Ideal.ieee, -EReal.coe_mul]; norm_num

/-- A code as a number, less the constant 8. -/
theorem centred_of_toInt (n : BitVec 4) (w : BitVec 32) (h : w.toInt = (n.toNat : ℤ)) :
    ((w.toInt : ℝ) : EReal) - Idealize.ShloMosaic.Ideal.ofBits .bf16 0x4100#16 = centred n := by
  rw [ofBits_eight, h, centred, ← EReal.coe_sub]
  push_cast
  rfl

end Cert.W4

end
-- ==== Proof.CodesValue.lean ====
module

public import proofs.«01_k».proof.Proof.Chunk
public import proofs.«01_k».proof.Proof.Nibble

/-! # The codes and the weights of a group, element by element -/

@[expose] public section

set_option maxRecDepth 16384

noncomputable section

namespace Cert.KernelIdeal.W4

open Cert.KernelIdeal Cert.KernelIdeal.Gen Idealize.ShloMosaic Idealize.SL.Sem

/-- Row `k` of the codes is half `k % 2` of byte row `k / 2`, less 8. -/
theorem codes_apply (w : Vec Ideal S128x512 .i8) (k : Fin 256) (n : Fin 512) :
    codes (F := Ideal) w (ix2 k n)
      = Cert.W4.centred (Cert.W4.nibble (w (ix2 ⟨k.val / 2, by omega⟩ n)) (k.val % 2)) := by
  pointwise [codes]
  rw [Cert.W4.word_code _ (w (ix2 ⟨k.val / 2, by omega⟩ n)) (k.val % 2) (k.val % 8) (Nat.mod_lt _ (by decide))]
  · show ((BitVec.toInt _ : ℝ) : EReal) = _
    rw [Cert.W4.flip_toInt]; rfl
  · intro i hi
    have := bitcast_8_32_getLsbD_ix2 w bitcasts_S128x512_w8_S32x512_w32 ⟨k.val / 8, by omega⟩ n (4 * (k.val % 8) + i)
      (by omega) ⟨k.val / 2, by omega⟩ (by show k.val / 2 = 4 * (k.val / 8) + (4 * (k.val % 8) + i) / 8; omega)
    rw [show 4 * (k.val % 2) + i = (4 * (k.val % 8) + i) % 8 by omega]
    exact this

/-- Every one of the eight rows is the row of scales. -/
theorem scaleRows_apply (p : Fin 2) (s : Vec Ideal S1x2x512 .bf16) (r : Fin 8) (n : Fin 512) :
    scaleRows (F := Ideal) p s (ix2 r n) = s (ix3 0 p n) := by
  pointwise [scaleRows]
  repeat' split
  all_goals rfl

/-- A weight is its code times the scale of its half. -/
theorem weights_apply (w : Vec Ideal S128x512 .i8) (s : Vec Ideal S1x2x512 .bf16) (k : Fin 256) (n : Fin 512) :
    weights (F := Ideal) w s (ix2 k n) = codes w (ix2 k n) * s (ix3 0 ⟨k.val % 2, Nat.mod_lt _ (by decide)⟩ n) := by
  pointwise [weights, scaleRows_apply]
  by_cases h : k.val % 2 = 0
  · rw [if_pos (by omega)]
    exact congrArg (fun a => _ * s (ix3 0 a n)) (Fin.ext h.symm)
  · rw [if_neg (by omega)]
    exact congrArg (fun a => _ * s (ix3 0 a n)) (Fin.ext (by show 1 = k.val % 2; omega))

/-- What a group adds to a chunk is the sum of its 256 products. -/
theorem groupDot_apply (x : Vec Ideal S16x256 .bf16) (w : Vec Ideal S128x512 .i8) (s : Vec Ideal S1x2x512 .bf16)
    (b : Fin 16) (n : Fin 512) :
    groupDot (F := Ideal) x w s (ix2 b n) = ∑ k : Fin 256, x (ix2 b k) * weights (F := Ideal) w s (ix2 k n) := by
  pointwise [groupDot]

end Cert.KernelIdeal.W4

end
-- ==== Proof.RearrangedValue.lean ====
module

public import proofs.«01_k».proof.Proof.Rearranged
public import Idealize.ShloMosaic.Lib.Pointwise

/-! # The rearranged input and the paired scales, element by element -/

@[expose] public section

set_option maxRecDepth 16384

noncomputable section

namespace Cert.KernelIdeal.W4

open Cert.KernelIdeal Cert.KernelIdeal.Gen Idealize.ShloMosaic Idealize.SL.Sem

variable {F : FTy → Type} [FloatOps F]

/-- Column `l` of the spread columns is column `64p + l / 2`. -/
theorem spread_apply (p : Fin 2) (v : FVec F S8x128 .bf16) (r : Fin 8) (l : Fin 128) :
    spread p v (ix2 r l) = v (ix2 r ⟨64 * p.val + l.val / 2, by omega⟩) := by
  fin_cases p <;> pointwise [spread] <;> (split <;> rfl)

/-- The mask is one exactly at the even columns. -/
theorem evenColumns_apply (r : Fin 8) (l : Fin 128) :
    evenColumns (ix2 r l) = if l.val % 2 = 0 then 1#1 else 0#1 := by
  pointwise [evenColumns]
  revert l
  decide +kernel

/-- A tile at an element: the even columns come from `a`, the odd ones from `b`. -/
theorem tile_apply (p : Fin 2) (a b : Vec F S16x128 .bf16) (r : Fin 16) (l : Fin 128) :
    tile p a b (ix2 r l) = if l.val % 2 = 0 then a (ix2 r ⟨64 * p.val + l.val / 2, by omega⟩)
      else b (ix2 r ⟨64 * p.val + l.val / 2, by omega⟩) := by
  pointwise [tile, tileRows, spread_apply, evenColumns_apply]
  have h0 : ∀ h : r.val % 2 = 0, (⟨2 * (r.val / 2), by omega⟩ : Fin 16) = r := fun h => Fin.ext (by show 2 * (r.val / 2) = r.val; omega)
  have h1 : ∀ h : ¬r.val % 2 = 0, (⟨2 * (r.val / 2) + 1, by omega⟩ : Fin 16) = r := fun h => Fin.ext (by show 2 * (r.val / 2) + 1 = r.val; omega)
  by_cases hr : r.val % 2 = 0 <;> by_cases hl : l.val % 2 = 0
  · rw [if_pos hr, if_pos hl, if_pos hl, h0 hr]; rfl
  · rw [if_pos hr, if_neg hl, if_neg hl, h0 hr]; rfl
  · rw [if_neg hr, if_pos hl, if_pos hl, h1 hr]; rfl
  · rw [if_neg hr, if_neg hl, if_neg hl, h1 hr]; rfl

/-- The paired scales: row `g` of pair `p` is row `g + 28p` of the scales. -/
theorem pairedScales_apply (s : Vec F S56x1024 .bf16) (g : Fin 28) (p : Fin 2) (n : Fin 1024) :
    k0_pay280 s (ix3 g p n) = s (ix2 ⟨g.val + 28 * p.val, by omega⟩ n) := by
  pointwise [k0_pay280]
  fin_cases p
  · rfl
  · refine congrArg s (congrArg (fun a => ix2 a n) (Fin.ext ?_))
    show 28 + g.val = g.val + 28 * 1
    omega

end Cert.KernelIdeal.W4

end
-- ==== Proof.BlockValue.lean ====
module

public import proofs.«01_k».proof.Proof.Blocks
public import proofs.«01_k».proof.Proof.CodesValue
public import proofs.«01_k».proof.Proof.RearrangedValue

/-! # What a block of the result is, element by element -/

@[expose] public section

set_option maxRecDepth 16384

noncomputable section

namespace Cert.KernelIdeal.W4

open Cert.KernelIdeal Cert.KernelIdeal.Gen Idealize.ShloMosaic Idealize.SL.Sem

/-- The sum over groups `0 … n` is a sum. -/
theorem partialSum_apply (x : Fin 28 → Vec Ideal S16x256 .bf16) (w : Fin 28 → Vec Ideal S128x512 .i8)
    (s : Fin 28 → Vec Ideal S1x2x512 .bf16) (j : S16x512.Idx) : ∀ (n : ℕ) (h : n < 28),
    partialSum (F := Ideal) x w s n h j
      = ∑ g : Fin (n + 1), groupDot (F := Ideal) (x ⟨g.val, by omega⟩) (w ⟨g.val, by omega⟩) (s ⟨g.val, by omega⟩) j
  | 0, h => by rw [Fin.sum_univ_one]; rfl
  | n + 1, h => by
    rw [Fin.sum_univ_castSucc]
    exact congrArg (· + _) (partialSum_apply x w s j n (Nat.lt_of_succ_lt h))

/-- A chunk of a block at an element: the sum over the groups and over the 256 columns of a group. -/
theorem blockChunk_apply (x : Vec Ideal S16x7168 .bf16) (w : Vec Ideal S3584x1024 .i8) (s : Vec Ideal S28x2x1024 .bf16)
    (o : ℕ) (ho : o + 512 ≤ 1024) (b : Fin 16) (n : Fin 512) :
    blockChunk (F := Ideal) x w s o ho (ix2 b n)
      = ∑ g : Fin 28, ∑ k : Fin 256, x (ix2 b ⟨256 * g.val + k.val, by omega⟩)
          * (Cert.W4.centred (Cert.W4.nibble (w (ix2 ⟨128 * g.val + k.val / 2, by omega⟩ ⟨o + n.val, by omega⟩)) (k.val % 2))
            * s (ix3 g ⟨k.val % 2, Nat.mod_lt _ (by decide)⟩ ⟨o + n.val, by omega⟩)) := by
  unfold blockChunk chunk
  pointwise []
  rw [partialSum_apply]
  simp only [groupDot_apply, weights_apply, codes_apply]
  refine Finset.sum_congr rfl fun g _ => Finset.sum_congr rfl fun k _ => ?_
  pointwise []

/-- One element of a block: the sum over the groups and over the 256 columns of a group. -/
def blockElement (x : Vec Ideal S16x7168 .bf16) (w : Vec Ideal S3584x1024 .i8) (s : Vec Ideal S28x2x1024 .bf16)
    (b : Fin 16) (n : Fin 1024) : EReal :=
  ∑ g : Fin 28, ∑ k : Fin 256, x (ix2 b ⟨256 * g.val + k.val, by omega⟩)
    * (Cert.W4.centred (Cert.W4.nibble (w (ix2 ⟨128 * g.val + k.val / 2, by omega⟩ n)) (k.val % 2))
      * s (ix3 g ⟨k.val % 2, Nat.mod_lt _ (by decide)⟩ n))

/-- Where column `o + n` of a block lies in a chunk that starts at column `o`. -/
theorem emb_chunk (o : ℕ) (ho : o + 512 ≤ 1024)
    (inb : ∀ a, (![0, o] : Fin 2 → Nat) a + S16x512.size a ≤ S16x1024.size a) (b : Fin 16) (n : Fin 512) :
    (Rect.unit (s := S16x1024) ![0, o] S16x512.size inb).emb (ix2 b n) = ix2 b ⟨o + n.val, by omega⟩ := by
  funext a
  fin_cases a
  · exact Fin.ext (by show 0 + 1 * b.val = b.val; omega)
  · exact Fin.ext (by show o + 1 * n.val = o + n.val; omega)

/-- The two chunks put together: the block at an element. -/
theorem block_apply (x : Vec Ideal S16x7168 .bf16) (w : Vec Ideal S3584x1024 .i8) (s : Vec Ideal S28x2x1024 .bf16)
    (b : Fin 16) (n : Fin 1024) :
    View.canon (blockPieces (F := Ideal) x w s) (ix2 b n) = blockElement x w s b n := by
  have h := View.canon_apply_of_pieces (Val := Elt Ideal) (e := .bf16) (fun y : S16x1024.Idx => blockElement x w s (y 0) (y 1))
    (blockPieces (F := Ideal) x w s) ?_ (ix2 b n) (View.cover_of_tiledL (blockPieces (F := Ideal) x w s) S16x512.size (by rfl) _)
  · exact h
  · intro p hp j
    simp only [blockPieces, List.mem_cons, List.not_mem_nil, or_false] at hp
    rcases hp with rfl | rfl
    · obtain ⟨b', n', rfl⟩ : ∃ (b' : Fin 16) (n' : Fin 512), j = ix2 b' n' := ⟨j 0, j 1, eq_ix2 j⟩
      refine (blockChunk_apply x w s 512 (by decide) b' n').trans ?_
      erw [emb_chunk 512 (by decide) inb_S16x1024_S16x512_0_512]
      rfl
    · obtain ⟨b', n', rfl⟩ : ∃ (b' : Fin 16) (n' : Fin 512), j = ix2 b' n' := ⟨j 0, j 1, eq_ix2 j⟩
      refine (blockChunk_apply x w s 0 (by decide) b' n').trans ?_
      erw [emb_chunk 0 (by decide) inb_S16x1024_S16x512_0_0]
      rfl

/-- The input rearranged: column `j` holds a column of the first half of the input when `j` is even, of the second
    half when `j` is odd. -/
def rearranged (x : Vec Ideal S16x7168 .bf16) : Vec Ideal S16x7168 .bf16 :=
  fun y => x (ix2 (y 0) ⟨128 * ((y 1).val / 256) + (y 1).val % 256 / 2 + 3584 * ((y 1).val % 2), by
    have := (y 1).isLt
    change (y 1).val < 7168 at this
    omega⟩)

/-- A load of 128 columns at an element. -/
theorem load128_apply (arg1 : Memref sig .tc .vmem S16x7168 .bf16) (harg1 : arg1.IsWhole) (x0 : Vec Ideal S16x7168 .bf16)
    (o : ℕ) (h : o + 128 ≤ 7168) (r : Fin 16) (l : Fin 128) :
    load128 (F := Ideal) arg1 harg1 x0 o h (ix2 r l) = x0 (ix2 r ⟨o + l.val, by omega⟩) := by
  simp only [load128, View.readAt_eq_ld, Memref.IsWhole.read_unread]
  pointwise []

/-- Where column `l` of the tile stored at column `o` lies. -/
theorem emb_tile (o : ℕ) (h : o + 128 ≤ 7168) (r : Fin 16) (l : Fin 128) :
    (Rect.unit (s := S16x7168) ![0, o] S16x128.size (inbTile o h)).emb (ix2 r l) = ix2 r ⟨o + l.val, by omega⟩ := by
  funext a
  fin_cases a
  · exact Fin.ext (by show 0 + 1 * r.val = r.val; omega)
  · exact Fin.ext (by show o + 1 * l.val = o + l.val; omega)

/-- Every store of the rearrangement stores its part of the rearranged input. -/
theorem tiles_agree (arg1 : Memref sig .tc .vmem S16x7168 .bf16) (harg1 : arg1.IsWhole) (x0 : Vec Ideal S16x7168 .bf16) :
    ∀ (n : ℕ) (h : n ≤ 56), ∀ p ∈ tiles (F := Ideal) arg1 harg1 x0 n h, ∀ y : p.1.shape.Idx,
      p.2 y = rearranged x0 (p.1.emb y)
  | 0, _ => fun p hp => absurd hp List.not_mem_nil
  | n + 1, h => by
    intro p hp y
    rw [tiles, List.mem_cons] at hp
    rcases hp with rfl | hp
    · obtain ⟨r, l, rfl⟩ : ∃ (r : Fin 16) (l : Fin 128), y = ix2 r l := ⟨y 0, y 1, eq_ix2 y⟩
      refine (tile_apply _ _ _ r l).trans ?_
      rw [load128_apply, load128_apply]
      erw [emb_tile (128 * n) (by omega)]
      show _ = x0 (ix2 r ⟨128 * ((128 * n + l.val) / 256) + (128 * n + l.val) % 256 / 2 + 3584 * ((128 * n + l.val) % 2), _⟩)
      by_cases hl : l.val % 2 = 0
      · rw [if_pos hl]
        refine congrArg x0 (congrArg (ix2 r) (Fin.ext ?_))
        show 128 * (n / 2) + (64 * (n % 2) + l.val / 2) = 128 * ((128 * n + l.val) / 256) + (128 * n + l.val) % 256 / 2 + 3584 * ((128 * n + l.val) % 2)
        omega
      · rw [if_neg hl]
        refine congrArg x0 (congrArg (ix2 r) (Fin.ext ?_))
        show 3584 + 128 * (n / 2) + (64 * (n % 2) + l.val / 2) = 128 * ((128 * n + l.val) / 256) + (128 * n + l.val) % 256 / 2 + 3584 * ((128 * n + l.val) % 2)
        omega
    · exact tiles_agree arg1 harg1 x0 n (Nat.le_of_succ_le h) p hp y

/-- The 56 stores leave the rearranged input. -/
theorem stored_eq (arg1 : Memref sig .tc .vmem S16x7168 .bf16) (harg1 : arg1.IsWhole) (x0 : Vec Ideal S16x7168 .bf16) :
    stored (F := Ideal) arg1 harg1 x0 = rearranged x0 := by
  funext y
  refine View.canon_apply_of_pieces _ _ (tiles_agree arg1 harg1 x0 56 (le_refl _)) y ?_
  exact View.cover_of_tiledL (tiles (F := Ideal) arg1 harg1 x0 56 (le_refl _)) S16x128.size (by rfl) y

end Cert.KernelIdeal.W4

end
-- ==== Proof.ArrayValue.lean ====
module

public import proofs.«01_k».proof.Proof.BlockValue
public import proofs.«01_k».proof.Proof.Gen.KernelIdeal.Value

/-! # What the result array holds -/

@[expose] public section

set_option maxRecDepth 16384

noncomputable section

namespace Cert.KernelIdeal.W4

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The block indices of the four windows at a point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The number of grid points. -/
theorem points (t : Fin cfg0.N) : t.val < 20 := lt_of_lt_of_eq t.isLt (show cfg0.N = 20 from N_0)

/-- The whole input, at every point. -/
theorem iblk0 (c : Dev nD) (t : Fin cfg0.N) (b : Fin 16) (k : Fin 7168) :
    (iblk m c 0 t : Vec Ideal S16x7168 .bf16) (ix2 b k) = m ((c : Thread nD τ).loc main_arg0) (ix3 b 0 k) := by
  blk_point [iblk, V, idx t]

/-- The packed bytes of a point: 1024 columns. -/
theorem iblk1 (c : Dev nD) (t : Fin cfg0.N) (r : Fin 3584) (n : Fin 1024) :
    (iblk m c 1 t : Vec Ideal S3584x1024 .i8) (ix2 r n)
      = m ((c : Thread nD τ).loc main_arg1) (ix2 r ⟨1024 * t.val + n.val, by have := points t; omega⟩) := by
  have := points t
  blk_point [iblk, V, idx t]

/-- The scales of a point: 1024 columns. -/
theorem iblk2 (c : Dev nD) (t : Fin cfg0.N) (g : Fin 56) (n : Fin 1024) :
    (iblk m c 2 t : Vec Ideal S56x1024 .bf16) (ix2 g n)
      = m ((c : Thread nD τ).loc main_arg2) (ix2 g ⟨1024 * t.val + n.val, by have := points t; omega⟩) := by
  have := points t
  blk_point [iblk, V, idx t]

/-- The input block is the same at every point. -/
theorem iblk0_const (c : Dev nD) (t t' : Fin cfg0.N) :
    (iblk m c 0 t : Vec Ideal S16x7168 .bf16) = (iblk m c 0 t' : Vec Ideal S16x7168 .bf16) := by
  funext y
  obtain ⟨b, k, rfl⟩ : ∃ (b : Fin 16) (k : Fin 7168), y = ix2 b k := ⟨y 0, y 1, eq_ix2 y⟩
  rw [iblk0, iblk0]

/-- After every point the scratch buffer holds the rearranged input and the output block is that point's block. -/
theorem outs (c : Dev nD) : ∀ (n : ℕ) (hn : n < cfg0.N),
    outsAt0 m c n hn
      = (View.canon (blockPieces (F := Ideal) (rearranged (iblk m c 0 ⟨n, hn⟩)) (iblk m c 1 ⟨n, hn⟩) (k0_pay280 (iblk m c 2 ⟨n, hn⟩))),
         rearranged (iblk m c 0 ⟨n, hn⟩))
  | 0, hn => by
    rw [outsAt0_A m c ⟨0, hn⟩ rfl, out_A, sout_A, stored_eq]
  | n + 1, hn => by
    have h20 := points ⟨n + 1, hn⟩
    have hne : ¬ (n + 1) % 20 = 0 := by
      change n + 1 < 20 at h20
      omega
    rw [outsAt0_B m c ⟨n + 1, hn⟩ hne]
    simp only [Nat.add_sub_cancel]
    rw [out_B, outs c n (Nat.lt_of_succ_lt hn), iblk0_const m c ⟨n, _⟩ ⟨n + 1, hn⟩]
    rfl

/-- One element of the result array. -/
def element (x : Vec Ideal S16x1x7168 .bf16) (w : Vec Ideal S3584x20480 .i8) (s : Vec Ideal S56x20480 .bf16)
    (b : Fin 16) (n : Fin 20480) : EReal :=
  ∑ g : Fin 28, ∑ k : Fin 256, x (ix3 b 0 ⟨128 * g.val + k.val / 2 + 3584 * (k.val % 2), by omega⟩)
    * (Cert.W4.centred (Cert.W4.nibble (w (ix2 ⟨128 * g.val + k.val / 2, by omega⟩ n)) (k.val % 2))
      * s (ix2 ⟨g.val + 28 * (k.val % 2), by omega⟩ n))

/-- The result array, element by element. -/
theorem G3_apply (c : Dev nD) (b : Fin 16) (n : Fin 20480) :
    G3 m c (ix2 b n) = element (m ((c : Thread nD τ).loc main_arg0)) (m ((c : Thread nD τ).loc main_arg1))
      (m ((c : Thread nD τ).loc main_arg2)) b n := by
  have hp : pt3Of (ix2 b n) = n.val / 1024 := by
    show 20 * (b.val / 16 - 0) + 1 * (n.val / 1024 - 0) = n.val / 1024
    omega
  have hlt : n.val / 1024 < cfg0.N := lt_of_lt_of_eq (show n.val / 1024 < 20 by omega) (show cfg0.N = 20 from N_0).symm
  have hl : loc3Of (ix2 b n) = ix2 b ⟨n.val % 1024, Nat.mod_lt _ (by decide)⟩ := by
    funext a
    fin_cases a
    · exact Fin.ext (by show b.val % 16 = b.val; omega)
    · rfl
  unfold G3
  rw [dif_pos (by rw [hp]; exact hlt), fold0_congr m c _ _ _ (by omega) hp, ← outsAt0_sweep m c _ hlt, outs, hl]
  show View.canon _ _ = _
  rw [block_apply, blockElement, element]
  refine Finset.sum_congr rfl fun g _ => Finset.sum_congr rfl fun k _ => ?_
  have hn : (⟨1024 * (n.val / 1024) + n.val % 1024, by omega⟩ : Fin 20480) = n := Fin.ext (Nat.div_add_mod _ _)
  have hx : rearranged (iblk m c 0 ⟨n.val / 1024, hlt⟩) (ix2 b ⟨256 * g.val + k.val, by omega⟩)
      = m ((c : Thread nD τ).loc main_arg0) (ix3 b 0 ⟨128 * g.val + k.val / 2 + 3584 * (k.val % 2), by omega⟩) := by
    unfold rearranged
    refine (iblk0 m c _ b _).trans (congrArg _ (congrArg (ix3 b 0) (Fin.ext ?_)))
    show 128 * ((256 * g.val + k.val) / 256) + (256 * g.val + k.val) % 256 / 2 + 3584 * ((256 * g.val + k.val) % 2) = 128 * g.val + k.val / 2 + 3584 * (k.val % 2)
    omega
  rw [hx, pairedScales_apply, iblk1, iblk2]
  simp only [hn]

end Cert.KernelIdeal.W4

end
-- ==== Proof.ReferenceValue.lean ====
module

public import proofs.«01_k».proof.Proof.Nibble
public import proofs.«01_k».proof.Proof.Gen.ReferenceIdeal.Run

/-! # What the reference computes, element by element -/

@[expose] public section

set_option maxRecDepth 16384

noncomputable section

namespace Cert.ReferenceIdeal.W4

open Cert.ReferenceIdeal Cert.ReferenceIdeal.Gen Cert.ReferenceIdeal.Value Idealize.ShloMosaic Idealize.ShloMosaic.TcCoe Idealize.SL.Sem

/-- The codes of the low or of the high halves of the bytes, times their scales. -/
def half (q : IVec S28x128x20480 32) (s : FVec Ideal S28x20480 .bf16) : FVec Ideal S28x128x20480 .bf16 :=
  mulf (subf (sitofp .bf16 q) (broadcastInDim S28x128x20480 ![] bcast_S_S28x128x20480 (constant S_ .bf16 0x4100#16)))
    (broadcastInDim S28x128x20480 ![0, 1, 2] bcast_S28x1x20480_S28x128x20480_0_1_2
      (broadcastInDim S28x1x20480 ![0, 2] bcast_S28x20480_S28x1x20480_0_2 s))

/-- The bytes widened with zeros, in groups of 128 rows. -/
def grouped (w : Vec Ideal S3584x20480 .i8) : IVec S28x128x20480 32 :=
  shapeCast S28x128x20480 (extui 32 w natLt_8_32) shapeCasts_S3584x20480_S28x128x20480

/-- The input in groups of 128 columns. -/
def input (x : Vec Ideal S16x1x7168 .bf16) : FVec Ideal S16x56x128 .bf16 :=
  shapeCast S16x56x128 x shapeCasts_S16x1x7168_S16x56x128

/-- The result of the reference, as its operations compose it. -/
def result (x : Vec Ideal S16x1x7168 .bf16) (w : Vec Ideal S3584x20480 .i8) (s : Vec Ideal S56x20480 .bf16) :
    FVec Ideal S16x20480 .bf16 :=
  truncf .bf16
    (addf
      (Host.dotGeneral dot_S16x28x128_S28x128x20480_S16x20480_12_01_0_2_n_n none
        (extractStridedSlice S16x28x128 ![0, 0, 0] (input x) slices_S16x56x128_S16x28x128_0_0_0 : FVec Ideal S16x28x128 .bf16)
        (half (andi (grouped w) (broadcastInDim S28x128x20480 ![] bcast_S_S28x128x20480 (constantI S_ 32 15#32)))
          (extractStridedSlice S28x20480 ![0, 0] s slices_S56x20480_S28x20480_0_0)))
      (Host.dotGeneral dot_S16x28x128_S28x128x20480_S16x20480_12_01_0_2_n_n none
        (extractStridedSlice S16x28x128 ![0, 28, 0] (input x) slices_S16x56x128_S16x28x128_0_28_0 : FVec Ideal S16x28x128 .bf16)
        (half (Host.shrsi (grouped w) (broadcastInDim S28x128x20480 ![] bcast_S_S28x128x20480 (constantI S_ 32 4#32)))
          (extractStridedSlice S28x20480 ![28, 0] s slices_S56x20480_S28x20480_28_0))))
    bitsLt_bf16_f32

/-- A weight of the reference: a code less 8, times its scale. -/
theorem half_apply (q : IVec S28x128x20480 32) (s : FVec Ideal S28x20480 .bf16) (g : Fin 28) (k : Fin 128) (n : Fin 20480) :
    half q s (ix3 g k n)
      = (((q (ix3 g k n)).toInt : ℝ) - Idealize.ShloMosaic.Ideal.ofBits .bf16 0x4100#16 : EReal) * s (ix2 g n) := by
  pointwise [half]
  rfl

/-- Byte `k` of group `g` is byte row `128g + k`. -/
theorem grouped_apply (w : Vec Ideal S3584x20480 .i8) (g : Fin 28) (k : Fin 128) (n : Fin 20480) :
    grouped w (ix3 g k n) = (w (ix2 ⟨128 * g.val + k.val, by omega⟩ n)).setWidth 32 := by
  pointwise [grouped]
  refine congrArg (fun r => (w (ix2 r n)).setWidth 32) (Fin.ext ?_)
  show g.val * 128 + k.val = 128 * g.val + k.val
  omega

/-- One term of the reference's sum: half `p` of byte row `128g + k`. -/
def term (x : Vec Ideal S16x1x7168 .bf16) (w : Vec Ideal S3584x20480 .i8) (s : Vec Ideal S56x20480 .bf16)
    (b : Fin 16) (n : Fin 20480) (g : Fin 28) (k : Fin 128) (p : Fin 2) : EReal :=
  x (ix3 b 0 ⟨128 * g.val + k.val + 3584 * p.val, by omega⟩)
    * (Cert.W4.centred (Cert.W4.nibble (w (ix2 ⟨128 * g.val + k.val, by omega⟩ n)) p.val)
      * s (ix2 ⟨g.val + 28 * p.val, by omega⟩ n))

/-- The reference's result: the sum over the low halves plus the sum over the high halves. -/
theorem result_apply (x : Vec Ideal S16x1x7168 .bf16) (w : Vec Ideal S3584x20480 .i8) (s : Vec Ideal S56x20480 .bf16)
    (b : Fin 16) (n : Fin 20480) :
    result x w s (ix2 b n)
      = (∑ g : Fin 28, ∑ k : Fin 128, term x w s b n g k 0) + ∑ g : Fin 28, ∑ k : Fin 128, term x w s b n g k 1 := by
  pointwise [result, input, half_apply, grouped_apply]
  refine congrArg₂ (· + ·) ?_ ?_
  · refine Finset.sum_congr rfl fun g _ => Finset.sum_congr rfl fun k _ => ?_
    rw [Cert.W4.centred_of_toInt _ _ (Cert.W4.low_code _)]
    refine congrArg (· * _) (congrArg x (congrArg (ix3 b 0) (Fin.ext ?_)))
    show g.val * 128 + k.val = 128 * g.val + k.val + 3584 * 0
    omega
  · refine Finset.sum_congr rfl fun g _ => Finset.sum_congr rfl fun k _ => ?_
    rw [Cert.W4.centred_of_toInt _ _ (Cert.W4.high_code _)]
    refine congrArg₂ (· * ·) (congrArg x (congrArg (ix3 b 0) (Fin.ext ?_)))
      (congrArg (_ * ·) (congrArg s (congrArg (ix2 · n) (Fin.ext ?_))))
    · show (28 + g.val) * 128 + k.val = 128 * g.val + k.val + 3584 * 1
      omega
    · show 28 + g.val = g.val + 28 * 1
      omega

/-- The reference's run leaves `result` of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceIdeal.W4

end
-- ==== Proof.Equation.lean ====
module

public import proofs.«01_k».proof.Proof.ArrayValue
public import proofs.«01_k».proof.Proof.ReferenceValue

/-! # The kernel's sum is the reference's

The kernel adds up, for each group, 256 products in which the low and the high halves of a byte row alternate; the
reference adds up all the low halves and then all the high halves. The products are the same, so only the order of a
finite sum changes: addition of extended reals is commutative and associative, and nothing else is used. -/

@[expose] public section

set_option maxRecDepth 16384

noncomputable section

namespace Cert.W4

open Idealize.ShloMosaic

/-- A sum over 256 columns, by byte row and half. -/
theorem sum_by_halves (f : Fin 256 → EReal) :
    ∑ j : Fin 256, f j
      = ∑ k : Fin 128, (f ⟨2 * k.val, by omega⟩ + f ⟨2 * k.val + 1, by omega⟩) := by
  rw [← (finProdFinEquiv (m := 128) (n := 2)).sum_comp f, Fintype.sum_prod_type]
  refine Finset.sum_congr rfl fun k _ => ?_
  rw [Fin.sum_univ_two]
  refine congrArg₂ (· + ·) (congrArg f (Fin.ext ?_)) (congrArg f (Fin.ext ?_))
  · show 0 + 2 * k.val = 2 * k.val
    omega
  · show 1 + 2 * k.val = 2 * k.val + 1
    omega

/-- An element of the kernel's array is that element of the reference's result. -/
theorem element_eq_result (x : Vec Ideal Cert.ReferenceIdeal.S16x1x7168 .bf16)
    (w : Vec Ideal Cert.ReferenceIdeal.S3584x20480 .i8) (s : Vec Ideal Cert.ReferenceIdeal.S56x20480 .bf16)
    (b : Fin 16) (n : Fin 20480) :
    Cert.KernelIdeal.W4.element x w s b n = Cert.ReferenceIdeal.W4.result x w s (ix2 b n) := by
  rw [Cert.ReferenceIdeal.W4.result_apply, Cert.KernelIdeal.W4.element, ← Finset.sum_add_distrib]
  refine Finset.sum_congr rfl fun g _ => ?_
  rw [sum_by_halves, ← Finset.sum_add_distrib]
  refine Finset.sum_congr rfl fun k _ => ?_
  have e0 : 2 * k.val / 2 = k.val := by omega
  have e1 : (2 * k.val + 1) / 2 = k.val := by omega
  have m0 : 2 * k.val % 2 = 0 := by omega
  have m1 : (2 * k.val + 1) % 2 = 1 := by omega
  simp only [e0, e1, m0, m1]
  rfl

/-- The kernel's array is the reference's result. -/
theorem array_eq_result (m : (ℓ : Loc Cert.KernelIdeal.nD Cert.KernelIdeal.τ Cert.KernelIdeal.sig) → Buf (Elt Ideal) ℓ)
    (c : Dev Cert.KernelIdeal.nD) :
    Cert.KernelIdeal.Value.G3 m c
      = Cert.ReferenceIdeal.W4.result (m ((c.tc : Thread _ _).loc Cert.KernelIdeal.main_arg0))
          (m ((c.tc : Thread _ _).loc Cert.KernelIdeal.main_arg1)) (m ((c.tc : Thread _ _).loc Cert.KernelIdeal.main_arg2)) := by
  funext j
  obtain ⟨b, n, rfl⟩ : ∃ (b : Fin 16) (n : Fin 20480), j = ix2 b n := ⟨j 0, j 1, eq_ix2 j⟩
  rw [Cert.KernelIdeal.W4.G3_apply]
  exact element_eq_result _ _ _ b n

end Cert.W4

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Bf16PairInverse
public import Idealize.ShloMosaic.Lib.Quiescent

@[expose] public section

noncomputable section

namespace Cert.Proof

open Idealize.ShloMosaic Idealize.SL.Sem

/-- The kernel runs, keeps its arguments and leaves nothing in flight. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every rewriting of the idealization is an instance of its rule. -/
theorem preserves : Cert.preserves_Kernel_KernelIdeal :=
  open Cert.KernelIdeal IdealRules.bf16_pair in
  ⟨bufferStatement S28x2x1024 S28x1x1024, statement S16x128 S8x128, halfStatement S56x1024,
    statement S28x2x1024 S28x1x1024, statement S1x2x512 S1x1x512, statement S16x512 S8x512⟩

/-- The idealized kernel's array is the reference's result, element by element. -/
theorem algebraic : Cert.algebraic_KernelIdeal_ReferenceIdeal := by
  intro m g m' g' _ hargs
  refine ⟨fun c => Cert.KernelIdeal.Value.G3 m c, Cert.KernelIdeal.Value.run m g, ?_⟩
  refine (θ_run Cert.ReferenceIdeal.defs _ _).mono (fun r h c => ⟨?_, (h c).2⟩) (Cert.ReferenceIdeal.W4.run m' g')
  obtain ⟨h0, h1, h2⟩ := hargs c
  rw [(h c).1, h0, h1, h2]
  exact (Cert.W4.array_eq_result m c).symm

/-- Everything the certificate claims. -/
theorem claim : Cert.Claim :=
  ⟨Cert.Kernel.Gen.facts, Cert.KernelIdeal.Gen.facts, Cert.ReferenceIdeal.Gen.facts, frame_kernel, frame_kernelIdeal,
    frame_referenceIdeal, preserves, algebraic⟩

end Cert.Proof

end
